-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S8x16384 : Shape := ⟨2, ![8, 16384]⟩
abbrev S64x8x16384 : Shape := ⟨3, ![64, 8, 16384]⟩
abbrev S1024x2048 : Shape := ⟨2, ![1024, 2048]⟩
abbrev S2048x64 : Shape := ⟨2, ![2048, 64]⟩
abbrev S8x2048 : Shape := ⟨2, ![8, 2048]⟩
abbrev S64x8x2048 : Shape := ⟨3, ![64, 8, 2048]⟩
abbrev S1024x64 : Shape := ⟨2, ![1024, 64]⟩
abbrev S2048 : Shape := ⟨1, ![2048]⟩
abbrev S1x2048 : Shape := ⟨2, ![1, 2048]⟩
abbrev S1x8x2048 : Shape := ⟨3, ![1, 8, 2048]⟩
abbrev S16384x8 : Shape := ⟨2, ![16384, 8]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .hbm, ⟨5, _⟩ => ⟨S8x16384, .f32⟩
  | .hbm, ⟨6, _⟩ => ⟨S8x16384, .i32⟩
  | .hbm, ⟨7, _⟩ => ⟨S64x8x16384, .i32⟩
  | .hbm, ⟨8, _⟩ => ⟨S16384x8, .f32⟩
  | .hbm, ⟨9, _⟩ => ⟨S16384x8, .i32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S8x2048, .f32⟩
  | .local _ .vmem, ⟨9, _⟩ => ⟨S8x2048, .f32⟩
  | .local _ .vmem, ⟨10, _⟩ => ⟨S8x2048, .i32⟩
  | .local _ .vmem, ⟨11, _⟩ => ⟨S8x2048, .i32⟩
  | .local _ .vmem, ⟨12, _⟩ => ⟨S64x8x2048, .i32⟩
  | .local _ .vmem, ⟨13, _⟩ => ⟨S64x8x2048, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x8x1 : Shape := ⟨3, ![16384, 8, 1]⟩
abbrev S1x1x64 : Shape := ⟨3, ![1, 1, 64]⟩
abbrev S16384x8x64 : Shape := ⟨3, ![16384, 8, 64]⟩
abbrev S64x8x16384 : Shape := ⟨3, ![64, 8, 16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | .hbm, ⟨22, _⟩ => ⟨S16384x8, .f32⟩
  | .hbm, ⟨23, _⟩ => ⟨S16384x8, .i32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x8, .f32⟩
  | .hbm, ⟨28, _⟩ => ⟨S16384x8, .f32⟩
  | .hbm, ⟨29, _⟩ => ⟨S16384x8x1, .i32⟩
  | .hbm, ⟨30, _⟩ => ⟨S1x1x64, .i32⟩
  | .hbm, ⟨31, _⟩ => ⟨S16384x8x64, .i32⟩
  | .hbm, ⟨32, _⟩ => ⟨S16384x8x64, .i32⟩
  | .hbm, ⟨33, _⟩ => ⟨S16384x8x64, .i1⟩
  | .hbm, ⟨34, _⟩ => ⟨S16384x8x64, .i32⟩
  | .hbm, ⟨35, _⟩ => ⟨S64x8x16384, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Proof.Pick.lean ====
/- Taking the greatest entry of a row again and again, each time writing `⊥` in its place: what the picked positions are,
   and that the stable descending sort of the row begins with them. -/
module

public import Idealize.ShloMosaic.Lib.SortFacts
public import Idealize.ShloMosaic.Lib.SortPrefix
public import Mathlib.Data.EReal.Basic
public import Mathlib.Data.Finset.Max

@[expose] public section

noncomputable section

namespace Cert.Router

open Idealize.ShloMosaic

/-- The greatest of a row's 64 entries. -/
def top (l : Fin 64 → EReal) : EReal := Finset.univ.sup l

/-- No entry exceeds the greatest. -/
theorem le_top (l : Fin 64 → EReal) (e : Fin 64) : l e ≤ top l := Finset.le_sup (f := l) (Finset.mem_univ e)

/-- Some entry is the greatest. -/
theorem exists_eq_top (l : Fin 64 → EReal) : ∃ e, l e = top l := by
  obtain ⟨e, -, h⟩ := Finset.exists_mem_eq_sup (Finset.univ : Finset (Fin 64)) ⟨0, Finset.mem_univ _⟩ l
  exact ⟨e, h.symm⟩

/-- The positions of the greatest entry are not none. -/
theorem attains_nonempty (l : Fin 64 → EReal) : (Finset.univ.filter fun e => l e = top l).Nonempty := by
  obtain ⟨e, h⟩ := exists_eq_top l
  exact ⟨e, by simp [h]⟩

/-- The first position at which a row attains its greatest entry. -/
def first (l : Fin 64 → EReal) : Fin 64 := (Finset.univ.filter fun e => l e = top l).min' (attains_nonempty l)

/-- The entry at the first position is the greatest. -/
theorem apply_first (l : Fin 64 → EReal) : l (first l) = top l :=
  (Finset.mem_filter.mp (Finset.min'_mem _ (attains_nonempty l))).2

/-- No position of the greatest entry comes before the first. -/
theorem first_le (l : Fin 64 → EReal) (e : Fin 64) (h : l e = top l) : first l ≤ e :=
  Finset.min'_le _ _ (by simp [h])

/-- The row after `r` picks: each pick's entry is overwritten by `⊥`. -/
def row (l : Fin 64 → EReal) : ℕ → Fin 64 → EReal
  | 0 => l
  | r + 1 => Function.update (row l r) (first (row l r)) ⊥

/-- The position picked after `r` picks. -/
def pick (l : Fin 64 → EReal) (r : ℕ) : Fin 64 := first (row l r)

/-- A position not picked yet keeps its entry. -/
theorem row_of_not_picked (l : Fin 64 → EReal) (e : Fin 64) (r : ℕ) (h : ∀ s < r, pick l s ≠ e) : row l r e = l e := by
  induction r with
  | zero => rfl
  | succ r ih =>
    have hne : e ≠ first (row l r) := fun he => h r (Nat.lt_succ_self r) he.symm
    rw [row, Function.update_of_ne hne]
    exact ih fun s hs => h s (Nat.lt_succ_of_lt hs)

/-- A picked position holds `⊥` from then on. -/
theorem row_of_picked (l : Fin 64 → EReal) (s r : ℕ) (h : s < r) : row l r (pick l s) = ⊥ := by
  induction r with
  | zero => exact absurd h (Nat.not_lt_zero s)
  | succ r ih =>
    rw [row]
    by_cases he : pick l s = first (row l r)
    · rw [he, Function.update_self]
    · rw [Function.update_of_ne he]
      rcases Nat.lt_succ_iff_lt_or_eq.mp h with hs | rfl
      · exact ih hs
      · exact absurd rfl he

/-- Fewer than 64 picks leave a position unpicked. -/
theorem exists_not_picked (l : Fin 64 → EReal) (r : ℕ) (hr : r < 64) : ∃ e, ∀ s < r, pick l s ≠ e := by
  by_contra hcon
  push Not at hcon
  have hsub : (Finset.univ : Finset (Fin 64)) ⊆ (Finset.range r).image (pick l) := fun e _ => by
    obtain ⟨s, hs, he⟩ := hcon e
    exact Finset.mem_image.mpr ⟨s, Finset.mem_range.mpr hs, he⟩
  have h1 := Finset.card_le_card hsub
  have h2 := (Finset.card_image_le (s := Finset.range r) (f := pick l))
  rw [Finset.card_univ, Fintype.card_fin] at h1
  rw [Finset.card_range] at h2
  omega

section
variable {l : Fin 64 → EReal} (hl : ∀ e, l e ≠ ⊥)
include hl

/-- In a row without `⊥`, a pick is none of the earlier ones. -/
theorem pick_ne (r : ℕ) (hr : r < 64) (s : ℕ) (hs : s < r) : pick l s ≠ pick l r := by
  intro he
  obtain ⟨e, hfree⟩ := exists_not_picked l r hr
  have h1 : row l r e ≤ ⊥ := by
    calc row l r e ≤ top (row l r) := le_top _ e
      _ = row l r (pick l r) := (apply_first _).symm
      _ = ⊥ := by rw [← he]; exact row_of_picked l s r hs
  rw [row_of_not_picked l e r hfree] at h1
  exact hl e (le_bot_iff.mp h1)

/-- … so the greatest entry left is the row's own entry at the pick. -/
theorem top_row (r : ℕ) (hr : r < 64) : top (row l r) = l (pick l r) := by
  rw [← row_of_not_picked l (pick l r) r (pick_ne hl r hr)]
  exact (apply_first _).symm

/-- Every position not picked earlier is below the pick, or equal to it and not before it. -/
theorem pick_best (r : ℕ) (hr : r < 64) (p : Fin 64) (hp : ∀ s < r, pick l s ≠ p) :
    l p < l (pick l r) ∨ (l p = l (pick l r) ∧ pick l r ≤ p) := by
  have hle : l p ≤ l (pick l r) := by
    rw [← top_row hl r hr, ← row_of_not_picked l p r hp]
    exact le_top _ p
  rcases hle.lt_or_eq with h | h
  · exact Or.inl h
  · refine Or.inr ⟨h, first_le _ _ ?_⟩
    rw [row_of_not_picked l p r hp, top_row hl r hr, h]

end

/-- Two comparisons that agree on every later-before-earlier pair of a list sort it alike. -/
theorem stableSort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable descending sort by the values alone is the sort by the values, then the positions. -/
theorem sortedFrom_value_then_position {n : ℕ} (key : Fin n → EReal) :
    sortedFrom (fun k k' => decide (key k' < key k)) =
      sortedFrom (fun k k' => decide (key k' < key k) || (decide (key k = key k') && decide (k < k'))) := by
  have h : sortPositions n (fun k k' => decide (key k' < key k)) =
      sortPositions n (fun k k' => decide (key k' < key k) || (decide (key k = key k') && decide (k < k'))) := by
    refine stableSort_congr _ _ _ ((List.pairwise_lt_finRange n).imp fun {a b} hab => ?_)
    have : ¬ b < a := not_lt.mpr hab.le
    simp [this]
  funext k
  unfold sortedFrom
  simp only [h, List.get_eq_getElem, Fin.val_cast]

/-- Of a row without `⊥`, and of anything ordered as it is, the stable descending sort begins with the picks. -/
theorem sortedFrom_pick {l : Fin 64 → EReal} (hl : ∀ e, l e ≠ ⊥) (key : Fin 64 → EReal)
    (hkey : ∀ a b, key a < key b ↔ l a < l b) (i : Fin 8) :
    sortedFrom (fun k k' => decide (key k' < key k)) (i.castLE (by decide : 8 ≤ 64)) = pick l i := by
  have heq : ∀ a b, key a = key b ↔ l a = l b := fun a b => by
    have h1 := hkey a b
    have h2 := hkey b a
    constructor
    · intro h
      exact le_antisymm (not_lt.mp fun h' => absurd (h2.mpr h') (by rw [h]; exact lt_irrefl _))
        (not_lt.mp fun h' => absurd (h1.mpr h') (by rw [h]; exact lt_irrefl _))
    · intro h
      exact le_antisymm (not_lt.mp fun h' => absurd (h2.mp h') (by rw [h]; exact lt_irrefl _))
        (not_lt.mp fun h' => absurd (h1.mp h') (by rw [h]; exact lt_irrefl _))
  rw [sortedFrom_value_then_position]
  have hB : StrictTotalBefore fun k k' : Fin 64 =>
      decide (key k' < key k) || (decide (key k = key k') && decide (k < k')) :=
    StrictTotalBefore.of_key_then_position (fun a b : EReal => decide (b < a)) key
      (fun a => by simp) (fun a b c h1 h2 => by simp only [decide_eq_true_eq] at h1 h2 ⊢; exact h2.trans h1)
      (fun a b => by
        simp only [decide_eq_true_eq]
        rcases lt_trichotomy a b with h | h | h
        · exact Or.inr (Or.inr h)
        · exact Or.inr (Or.inl h)
        · exact Or.inl h)
  have hlt : ∀ j : Fin 8, (j : ℕ) < 64 := fun j => by omega
  -- no position free at step `i` sorts before the pick
  have hfree : ∀ (i : Fin 8) (p : Fin 64), (∀ s < (i : ℕ), pick l s ≠ p) →
      (decide (key (pick l i) < key p) || (decide (key p = key (pick l i)) && decide (p < pick l i))) = false := by
    intro i p hp
    rw [Bool.or_eq_false_iff, Bool.and_eq_false_iff, decide_eq_false_iff_not, decide_eq_false_iff_not,
      decide_eq_false_iff_not, hkey, heq]
    rcases pick_best hl i (hlt i) p hp with h | ⟨h, h'⟩
    · exact ⟨not_lt.mpr h.le, Or.inl h.ne⟩
    · exact ⟨not_lt.mpr h.le, Or.inr (not_lt.mpr h')⟩
  refine hB.sortedFrom_eq_of_prefix (by decide : 8 ≤ 64) (fun j : Fin 8 => pick l j) ?_ ?_ ?_ i
  · intro a b hab
    rcases lt_trichotomy a b with h | h | h
    · exact absurd hab (pick_ne hl b (hlt b) a h)
    · exact h
    · exact absurd hab.symm (pick_ne hl a (hlt a) b h)
  · intro i j hij
    exact hfree i (pick l j) fun s hs => pick_ne hl j (hlt j) s (lt_trans hs hij)
  · intro i p hp
    exact hfree i p fun s hs => hp ⟨s, lt_trans hs i.isLt⟩

end Cert.Router

end
-- ==== Proof.Rounds.lean ====
/- One round of the kernel on a block of 2048 tokens (the greatest logit of every token, its first position, the logits
   with that position overwritten by `⊥`), read token by token, and the rounds iterated. -/
module

public import proofs.«01_k».proof.Proof.Gen.KernelIdeal
public import proofs.«01_k».proof.Proof.Gen.KernelIdeal.Skeleton
public import proofs.«01_k».proof.Proof.Pick
public import Idealize.ShloMosaic.Lib.Pointwise

@[expose] public section

noncomputable section

namespace Cert.Router

open Idealize.ShloMosaic Cert.KernelIdeal

attribute [local instance] Cert.KernelIdeal.Gen.facts

open Cert.KernelIdeal.Gen

/-- Negative infinity's pattern reads as `⊥`. -/
theorem ofBits_neg_inf : Ideal.ofBits .f32 0xFF800000#32 = ⊥ := by
  simp [Ideal.ofBits, Ideal.ieee]

/-- Folding `max` from `⊥` over a row gives its greatest entry. -/
theorem fold_max_eq_top (l : Fin 64 → EReal) : Finset.univ.fold max (Ideal.ofBits .f32 0xFF800000#32) l = top l := by
  rw [ofBits_neg_inf]; rfl

/-- The signed minimum of words is the minimum of the integers they stand for. -/
theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- The signed value of a small word. -/
theorem toInt_ofNat_small (a : ℕ) (ha : a ≤ 64) : (BitVec.ofNat 32 a).toInt = a := by
  rw [BitVec.toInt_eq_toNat_of_lt] <;> simp <;> omega

/-- The signed minimum of the positions attaining the greatest entry (`64` elsewhere) is the first such position. -/
theorem fold_minsi_eq_first (l : Fin 64 → EReal) :
    Finset.univ.fold IntOp.minsi 2147483647#32 (fun e => if l e = top l then BitVec.ofNat 32 (e : ℕ) else 64#32)
      = BitVec.ofNat 32 (first l : ℕ) := by
  have hf : (first l : ℕ) ≤ 64 := (first l).isLt.le
  have hinit : (2147483647#32).toInt = 2147483647 := by decide
  have helse : (64#32).toInt = 64 := by decide
  apply BitVec.eq_of_toInt_eq
  rw [← Finset.fold_hom (op := IntOp.minsi) (op' := min) (m := BitVec.toInt) toInt_minsi]
  refine le_antisymm (Finset.fold_min_le _ |>.mpr (Or.inr ⟨first l, Finset.mem_univ _, ?_⟩))
    (Finset.le_fold_min _ |>.mpr ⟨?_, fun e _ => ?_⟩)
  · rw [if_pos (apply_first l)]
  · rw [hinit, toInt_ofNat_small _ hf]; omega
  · rw [toInt_ofNat_small _ hf]
    by_cases h : l e = top l
    · rw [if_pos h, toInt_ofNat_small _ e.isLt.le]
      exact_mod_cast first_le l e h
    · rw [if_neg h, helse]; omega

/-- Selecting by equality of words. -/
theorem select_cmpi_eq {α : Type} (a b : BitVec 32) (x y : α) :
    Scalar.select (IntOp.cmpi .eq a b) x y = if a = b then x else y := by
  by_cases h : a = b
  · simp [Scalar.select, IntOp.cmpi, h]
  · have h' : (a == b) = false := beq_eq_false_iff_ne.mpr h
    simp [Scalar.select, IntOp.cmpi, h, h']

/-- Positions as 32-bit words are compared as positions. -/
theorem ofNat_eq_iff (a b : Fin 64) : BitVec.ofNat 32 (a : ℕ) = BitVec.ofNat 32 (b : ℕ) ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The 64 logits of one token of a block. -/
def col (lt : FVec Ideal S64x2048 .f32) (n : Fin 2048) : Fin 64 → EReal := fun e => lt (ix2 e n)

/-- The round's greatest logits. -/
def roundTop (lt : FVec Ideal S64x2048 .f32) : FVec Ideal S1x2048 .f32 :=
  shapeCast S1x2048 (multiReduction .maximumf [0] S2048 lt 0xFF800000#32 reduces_S64x2048_S2048 (.inl rfl) rfl)
    shapeCasts_S2048_S1x2048

/-- The round's positions. -/
def roundIdx (lt : FVec Ideal S64x2048 .f32) : IVec S1x2048 32 :=
  shapeCast S1x2048 (multiReductionI .minsi [0] S2048
    (select (cmpf .oeq lt (broadcastTo S64x2048 (roundTop lt) broadcasts_S1x2048_S64x2048))
      (iota .tc S64x2048 32 [0] iota_S64x2048_d0_w32) (broadcast S64x2048 64#32))
    2147483647#32 reduces_S64x2048_S2048 rfl) shapeCasts_S2048_S1x2048

/-- The logits left after the round. -/
def roundNext (lt : FVec Ideal S64x2048 .f32) : FVec Ideal S64x2048 .f32 :=
  select (cmpi .eq (iota .tc S64x2048 32 [0] iota_S64x2048_d0_w32)
      (broadcastTo S64x2048 (roundIdx lt) broadcasts_S1x2048_S64x2048))
    (broadcast S64x2048 (Scalar.ofBits .f32 0xFF800000#32)) lt

/-- A round's maximum, at a token, is its row's greatest entry. -/
theorem roundTop_apply (lt : FVec Ideal S64x2048 .f32) (n : Fin 2048) : roundTop lt (ix2 0 n) = top (col lt n) := by
  unfold roundTop
  pointwise
  exact fold_max_eq_top (col lt n)

/-- A round's position, at a token, is the first position of its row's greatest entry. -/
theorem roundIdx_apply (lt : FVec Ideal S64x2048 .f32) (n : Fin 2048) :
    roundIdx lt (ix2 0 n) = BitVec.ofNat 32 (first (col lt n) : ℕ) := by
  unfold roundIdx
  pointwise
  rw [roundTop_apply]
  exact fold_minsi_eq_first (col lt n)

/-- A round leaves each token's row without the entry it picked. -/
theorem col_roundNext (lt : FVec Ideal S64x2048 .f32) (n : Fin 2048) :
    col (roundNext lt) n = Function.update (col lt n) (first (col lt n)) ⊥ := by
  funext e
  show roundNext lt (ix2 e n) = _
  unfold roundNext
  pointwise
  rw [roundIdx_apply, ofBits_neg_inf, Function.update_apply, select_cmpi_eq]
  simp only [ofNat_eq_iff]
  rfl

/-- The logits left after `r` rounds. -/
def rounds (lt : FVec Ideal S64x2048 .f32) : ℕ → FVec Ideal S64x2048 .f32
  | 0 => lt
  | r + 1 => roundNext (rounds lt r)

/-- Token by token, the rounds are the picks of `Pick.lean`. -/
theorem col_rounds (lt : FVec Ideal S64x2048 .f32) (n : Fin 2048) (r : ℕ) : col (rounds lt r) n = row (col lt n) r := by
  induction r with
  | zero => rfl
  | succ r ih => rw [rounds, col_roundNext, ih, row]

/-- The greatest logits of round `r`. -/
def topRow (lt : FVec Ideal S64x2048 .f32) (r : ℕ) : FVec Ideal S1x2048 .f32 := roundTop (rounds lt r)

/-- The positions of round `r`. -/
def idxRow (lt : FVec Ideal S64x2048 .f32) (r : ℕ) : IVec S1x2048 32 := roundIdx (rounds lt r)

/-- The maximum of round `r`, at a token. -/
theorem topRow_apply (lt : FVec Ideal S64x2048 .f32) (r : ℕ) (n : Fin 2048) :
    topRow lt r (ix2 0 n) = top (row (col lt n) r) := by
  rw [topRow, roundTop_apply, col_rounds]

/-- The position of round `r`, at a token. -/
theorem idxRow_apply (lt : FVec Ideal S64x2048 .f32) (r : ℕ) (n : Fin 2048) :
    idxRow lt r (ix2 0 n) = BitVec.ofNat 32 (pick (col lt n) r : ℕ) := by
  rw [idxRow, roundIdx_apply, col_rounds]; rfl

/-- Eight rows stacked. -/
def stack {α : Type} (f : ℕ → S1x2048.Idx → α) : S8x2048.Idx → α :=
  concatenate S8x2048 0 [⟨S1x2048, f 0⟩, ⟨S1x2048, f 1⟩, ⟨S1x2048, f 2⟩, ⟨S1x2048, f 3⟩, ⟨S1x2048, f 4⟩, ⟨S1x2048, f 5⟩,
    ⟨S1x2048, f 6⟩, ⟨S1x2048, f 7⟩]
    concatenates_S1x2048_S1x2048_S1x2048_S1x2048_S1x2048_S1x2048_S1x2048_S1x2048_S8x2048_d0

/-- Eight stacked rows, read at an index. -/
theorem stack_apply {α : Type} (f : ℕ → S1x2048.Idx → α) (k : Fin 8) (n : Fin 2048) :
    stack f (ix2 k n) = f k (ix2 0 n) := by
  unfold stack
  pointwise
  fin_cases k <;> rfl

/-- The weights of a block, from the stacked greatest logits. -/
def weightsOf (v : FVec Ideal S8x2048 .f32) : FVec Ideal S8x2048 .f32 :=
  divf (exp (subf v (broadcastTo S8x2048 (extractStridedSlice S1x2048 ![0, 0] v slices_S8x2048_o0_0_S1x2048)
      broadcasts_S1x2048_S8x2048)))
    (broadcastTo S8x2048 (shapeCast S1x2048 (multiReduction .add [0] S2048
      (exp (subf v (broadcastTo S8x2048 (extractStridedSlice S1x2048 ![0, 0] v slices_S8x2048_o0_0_S1x2048)
        broadcasts_S1x2048_S8x2048))) 0x00000000#32 reduces_S8x2048_S2048 (.inl rfl) rfl) shapeCasts_S2048_S1x2048)
      broadcasts_S1x2048_S8x2048)

/-- The weights of eight stacked maxima, read at an index. -/
theorem weightsOf_apply (v : FVec Ideal S8x2048 .f32) (k : Fin 8) (n : Fin 2048) :
    weightsOf v (ix2 k n) = Ideal.div (Ideal.exp (v (ix2 k n) - v (ix2 0 n)))
      (∑ j : Fin 8, Ideal.exp (v (ix2 j n) - v (ix2 0 n))) := by
  unfold weightsOf
  pointwise

/-- The mask of a block, from the stacked positions. -/
def maskOf (v : IVec S8x2048 32) : IVec S64x8x2048 32 :=
  extui 32 (cmpi .eq (iota .tc S64x8x2048 32 [0] iota_S64x8x2048_d0_w32)
    (broadcastTo S64x8x2048 (shapeCast S1x8x2048 v shapeCasts_S8x2048_S1x8x2048) broadcasts_S1x8x2048_S64x8x2048))
    natLt_1_32

/-- The mask of eight stacked positions, read at an index. -/
theorem maskOf_apply (v : IVec S8x2048 32) (e : Fin 64) (k : Fin 8) (n : Fin 2048) :
    maskOf v (ix3 e k n) = (IntOp.cmpi .eq (BitVec.ofNat 32 (e : ℕ)) (v (ix2 k n))).setWidth 32 := by
  unfold maskOf
  pointwise

end Cert.Router

end
-- ==== Proof.Block.lean ====
/- What the kernel's body leaves in the buffers of its four results, from the blocks of its arguments: the logits of 2048
   tokens, and, from the logits token-last, the eight rounds' weights, positions and mask. -/
module

public import proofs.«01_k».proof.Proof.Gen.KernelIdeal.Frame
public import proofs.«01_k».proof.Proof.Rounds
public import Idealize.ShloMosaic.Lib.Pipeline.Value

@[expose] public section

noncomputable section

namespace Cert.Router

open Idealize.ShloMosaic Cert.KernelIdeal Cert.KernelIdeal.Gen

attribute [local instance] Cert.KernelIdeal.Gen.facts

/-- The origin of a rank-2 buffer. -/
theorem zeros2 : (![0, 0] : Fin 2 → ℕ) = fun _ => 0 := by
  funext a; fin_cases a <;> rfl

/-- The origin of a rank-3 buffer. -/
theorem zeros3 : (![0, 0, 0] : Fin 3 → ℕ) = fun _ => 0 := by
  funext a; fin_cases a <;> rfl

/-- The logits of the 2048 tokens of two half blocks: the first half's tokens, then the second's. -/
def blockLogits (xa xb : Vec Ideal S1024x2048 .f32) (w : Vec Ideal S64x2048 .f32) (b : Vec Ideal S1x64 .f32)
    (n : Fin 2048) (e : Fin 64) : EReal :=
  (if h : (n : ℕ) < 1024 then ∑ k : Fin 2048, xa (ix2 ⟨n, h⟩ k) * w (ix2 e k)
    else ∑ k : Fin 2048, xb (ix2 ⟨n - 1024, by omega⟩ k) * w (ix2 e k)) + b (ix2 0 e)

section
variable (xa xb : Vec Ideal S1024x2048 .f32) (w : Vec Ideal S64x2048 .f32) (b : Vec Ideal S1x64 .f32)

/-- The two gate products, stacked, plus the bias are the block's logits. -/
theorem pay1_apply (n : Fin 2048) (e : Fin 64) :
    k0_pay1 (F := Ideal) w xa xb b (ix2 n e) = blockLogits xa xb w b n e := by
  unfold_payloads
  pointwise
  rfl

/-- One token's logits in the transposed block are its logits. -/
theorem col_pay2 (n : Fin 2048) : col (k0_pay2 (F := Ideal) w xa xb b) n = blockLogits xa xb w b n := by
  funext e
  rw [← pay1_apply]
  show k0_pay2 (F := Ideal) w xa xb b (ix2 e n) = _
  unfold k0_pay2
  pointwise

/-- The logits' buffer. -/
theorem out4_eq : out0_4 (F := Ideal) xa xb w b = k0_pay1 (F := Ideal) w xa xb b := by
  unfold out0_4
  rw [View.canon_unit_zero zeros2, View.ld_unit_zero zeros2, View.ld_unit_zero zeros2, View.ld_unit_zero zeros2,
    View.ld_unit_zero zeros2]

/-- The printed rounds, the first two in the first part, are `rounds` of the transposed logits. -/
theorem pay8_eq : k0_pay8 (F := Ideal) w xa xb b = rounds (k0_pay2 (F := Ideal) w xa xb b) 2 := rfl

/-- The printed rounds three to five continue the first two. -/
theorem pay17_eq (lt : FVec Ideal S64x2048 .f32) :
    k0_pay17 (F := Ideal) (iota .tc S64x2048 32 [0] iota_S64x2048_d0_w32) (rounds lt 2) = rounds lt 5 := rfl

/-- The printed rounds after the fifth continue those before. -/
theorem pay21_eq (lt : FVec Ideal S64x2048 .f32) :
    k0_pay21 (F := Ideal) (rounds lt 5)
      (k0_pay20 (F := Ideal) (iota .tc S64x2048 32 [0] iota_S64x2048_d0_w32) (rounds lt 2)) = rounds lt 6 := rfl

/-- The positions' payload is the stack of the rounds' positions. -/
theorem pay26_eq (lt : FVec Ideal S64x2048 .f32) (i0 i1 i2 i3 i4 i5 : IVec S1x2048 32) (h0 : i0 = idxRow lt 0)
    (h1 : i1 = idxRow lt 1) (h2 : i2 = idxRow lt 2) (h3 : i3 = idxRow lt 3) (h4 : i4 = idxRow lt 4)
    (h5 : i5 = idxRow lt 5) :
    k0_pay26 (F := Ideal) (iota .tc S64x2048 32 [0] iota_S64x2048_d0_w32) i0 i1 i2 i3 i4 (rounds lt 5) i5
      (k0_pay20 (F := Ideal) (iota .tc S64x2048 32 [0] iota_S64x2048_d0_w32) (rounds lt 2)) = stack (idxRow lt) := by
  subst h0 h1 h2 h3 h4 h5; rfl

/-- The positions' buffer. -/
theorem out6_eq : out0_6 (F := Ideal) xa xb w b = stack (idxRow (k0_pay2 (F := Ideal) w xa xb b)) := by
  unfold_out out0_6
  rw [View.canon_unit_zero zeros2, View.ld_unit_zero zeros2, View.ld_unit_zero zeros2, View.ld_unit_zero zeros2,
    View.ld_unit_zero zeros2, pay8_eq, pay17_eq]
  exact pay26_eq _ _ _ _ _ _ _ rfl rfl rfl rfl rfl rfl

/-- The mask's buffer. -/
theorem out7_eq : out0_7 (F := Ideal) xa xb w b = maskOf (stack (idxRow (k0_pay2 (F := Ideal) w xa xb b))) := by
  rw [← out6_eq]
  unfold_out out0_7
  unfold_out out0_6
  rw [View.canon_unit_zero zeros3, View.canon_unit_zero zeros2]
  rfl

/-- The weights' buffer. -/
theorem out5_eq : out0_5 (F := Ideal) xa xb w b = weightsOf (stack (topRow (k0_pay2 (F := Ideal) w xa xb b))) := by
  unfold_out out0_5
  rw [View.canon_unit_zero zeros2, View.ld_unit_zero zeros2, View.ld_unit_zero zeros2, View.ld_unit_zero zeros2,
    View.ld_unit_zero zeros2, pay8_eq, pay17_eq]
  rfl

/-- A block's result logits, entry by entry. -/
theorem out4_apply (n : Fin 2048) (e : Fin 64) : out0_4 (F := Ideal) xa xb w b (ix2 n e) = blockLogits xa xb w b n e := by
  rw [out4_eq, pay1_apply]

/-- A block's weights, entry by entry. -/
theorem out5_apply (k : Fin 8) (n : Fin 2048) : out0_5 (F := Ideal) xa xb w b (ix2 k n) =
    Ideal.div (Ideal.exp (top (row (blockLogits xa xb w b n) k) - top (row (blockLogits xa xb w b n) 0)))
      (∑ j : Fin 8, Ideal.exp (top (row (blockLogits xa xb w b n) j) - top (row (blockLogits xa xb w b n) 0))) := by
  rw [out5_eq, weightsOf_apply]
  simp only [stack_apply, topRow_apply, col_pay2]
  rfl

/-- A block's positions, entry by entry. -/
theorem out6_apply (k : Fin 8) (n : Fin 2048) :
    out0_6 (F := Ideal) xa xb w b (ix2 k n) = BitVec.ofNat 32 (pick (blockLogits xa xb w b n) k : ℕ) := by
  rw [out6_eq, stack_apply, idxRow_apply, col_pay2]

/-- A block's mask, entry by entry. -/
theorem out7_apply (e : Fin 64) (k : Fin 8) (n : Fin 2048) : out0_7 (F := Ideal) xa xb w b (ix3 e k n) =
    (IntOp.cmpi .eq (BitVec.ofNat 32 (e : ℕ)) (BitVec.ofNat 32 (pick (blockLogits xa xb w b n) k : ℕ))).setWidth 32 := by
  rw [out7_eq, maskOf_apply, stack_apply, idxRow_apply, col_pay2]

end

end Cert.Router

end
-- ==== Proof.Logits.lean ====
/- The mathematics both programs compute, token by token: the logits, and the weights of the eight picks. -/
module

public import proofs.«01_k».proof.Proof.Pick
public import Idealize.ShloMosaic.Lib.Pointwise
public import Idealize.ShloMosaic.PureOps

@[expose] public section

noncomputable section

namespace Cert.Router

open Idealize.ShloMosaic

/-- The 64 logits of token `T`: its row against each expert's weights, plus the bias. -/
def logits (x : (⟨2, ![16384, 2048]⟩ : Shape).Idx → EReal) (w : (⟨2, ![64, 2048]⟩ : Shape).Idx → EReal)
    (b : (⟨1, ![64]⟩ : Shape).Idx → EReal) (T : Fin 16384) : Fin 64 → EReal :=
  fun e => (∑ k : Fin 2048, x (ix2 T k) * w (ix2 e k)) + b (ix1 e)

/-- The weight of pick `k`: the softmax of the eight greatest entries. -/
def weight (l : Fin 64 → EReal) (k : Fin 8) : EReal :=
  Ideal.div (Ideal.exp (top (row l k) - top (row l 0))) (∑ j : Fin 8, Ideal.exp (top (row l j) - top (row l 0)))

/-- The position of pick `k`, as a word. -/
def pickWord (l : Fin 64 → EReal) (k : Fin 8) : BitVec 32 := BitVec.ofNat 32 (pick l k : ℕ)

/-- Whether pick `k` is expert `e`, as a word `0` or `1`. -/
def maskWord (l : Fin 64 → EReal) (e : Fin 64) (k : Fin 8) : BitVec 32 :=
  (IntOp.cmpi .eq (BitVec.ofNat 32 (e : ℕ)) (pickWord l k)).setWidth 32

end Cert.Router

end
-- ==== Proof.Arrays.lean ====
/- What the kernel's four result arrays hold after its run: each grid point fills the block of its 2048 tokens, the blocks
   tile the arrays, and the two transposes after the region turn the weights and positions token-first. -/
module

public import proofs.«01_k».proof.Proof.Block
public import proofs.«01_k».proof.Proof.Logits

@[expose] public section

noncomputable section

namespace Cert.Router

open Idealize.ShloMosaic Cert.KernelIdeal Cert.KernelIdeal.Gen Idealize.ShloMosaic.TcCoe

attribute [local instance] Cert.KernelIdeal.Gen.facts

/-! ## Which block each window takes at a grid point -/

/-- The first half block: half block `2t`. -/
theorem index0 : ∀ t : Fin grid0.N, win0_0.index t 0 = 2 * t.val ∧ win0_0.index t 1 = 0 := by decide +kernel
/-- The second half block: half block `2t + 1`. -/
theorem index1 : ∀ t : Fin grid0.N, win0_1.index t 0 = 2 * t.val + 1 ∧ win0_1.index t 1 = 0 := by decide +kernel
/-- The experts' weights: one block. -/
theorem index2 : ∀ t : Fin grid0.N, win0_2.index t 0 = 0 ∧ win0_2.index t 1 = 0 := by decide +kernel
/-- The bias row: one block. -/
theorem index3 : ∀ t : Fin grid0.N, win0_3.index t 0 = 0 ∧ win0_3.index t 1 = 0 := by decide +kernel
/-- The logits: block `t` of the rows. -/
theorem index4 : ∀ t : Fin grid0.N, win0_4.index t 0 = t.val ∧ win0_4.index t 1 = 0 := by decide +kernel
/-- The weights: block `t` of the columns. -/
theorem index5 : ∀ t : Fin grid0.N, win0_5.index t 0 = 0 ∧ win0_5.index t 1 = t.val := by decide +kernel
/-- The positions: block `t` of the columns. -/
theorem index6 : ∀ t : Fin grid0.N, win0_6.index t 0 = 0 ∧ win0_6.index t 1 = t.val := by decide +kernel
/-- The mask: block `t` of the last axis. -/
theorem index7 : ∀ t : Fin grid0.N, win0_7.index t 0 = 0 ∧ win0_7.index t 1 = 0 ∧ win0_7.index t 2 = t.val := by
  decide +kernel

/-- The grid has eight points. -/
theorem lt_eight (t : Fin grid0.N) : t.val < 8 := lt_of_lt_of_eq t.isLt (by decide)

/-- The token that is token `n` of grid point `t`'s block. -/
def token (t : Fin grid0.N) (n : Fin 2048) : Fin 16384 := ⟨t.val * 2048 + n, by have := lt_eight t; omega⟩

/-- Every token is in some grid point's block. -/
theorem exists_token (T : Fin 16384) : ∃ (t : Fin grid0.N) (n : Fin 2048), token t n = T := by
  refine ⟨⟨T / 2048, lt_of_lt_of_eq (by omega : (T : ℕ) / 2048 < 8) (by decide)⟩, ⟨T % 2048, by omega⟩, ?_⟩
  exact Fin.ext (Nat.div_add_mod' (T : ℕ) 2048)

section
variable (m : (ℓ : Loc nD τ sig) → Buf (Elt Ideal) ℓ) (c : Dev nD)

/-- The tokens as launched. -/
abbrev argX : S16384x2048.Idx → EReal := m ((c : Thread nD τ).loc main_arg0)
/-- The experts' weights as launched. -/
abbrev argW : S64x2048.Idx → EReal := m ((c : Thread nD τ).loc main_arg1)
/-- The bias as launched. -/
abbrev argB : S64.Idx → EReal := m ((c : Thread nD τ).loc main_arg2)

/-- The bias row the region finds is the bias. -/
theorem V_bias (e : Fin 64) : V m c main_v0 (ix2 0 e) = argB m c (ix1 e) := by
  have h : V m c main_v0 = shapeCast S1x64 (m ((c : Thread nD τ).loc main_arg2)) shapeCasts_S64_S1x64 := by
    show StableHlo.after hostOps0 _ _ = _
    after_results
    rfl
  rw [h]
  pointwise

/-- The first half block at point `t`. -/
theorem iblk0_apply (t : Fin cfg0.N) (n : Fin 1024) (k : Fin 2048) (T : Fin 16384) (hT : (T : ℕ) = t.val * 2048 + n) :
    iblk m c 0 t (ix2 n k) = argX m c (ix2 T k) := by
  unfold iblk
  rw [View.read_apply]
  simp only [cast_eq]
  refine (congrArg (V m c main_arg0) (?_ : _ = (ix2 T k : S16384x2048.Idx))).trans (congrFun (V_main_arg0 m c) _)
  refine Shape.idx_ext₂ ((win0_0.rect_emb_val t (ix2 n k) 0).trans ?_) ((win0_0.rect_emb_val t (ix2 n k) 1).trans ?_)
  · rw [(index0 t).1]; show 2 * t.val * 1024 + (n : ℕ) = T; omega
  · rw [(index0 t).2]; show 0 * 2048 + (k : ℕ) = k; omega

/-- The second half block at point `t`. -/
theorem iblk1_apply (t : Fin cfg0.N) (n : Fin 1024) (k : Fin 2048) (T : Fin 16384)
    (hT : (T : ℕ) = t.val * 2048 + 1024 + n) : iblk m c 1 t (ix2 n k) = argX m c (ix2 T k) := by
  unfold iblk
  rw [View.read_apply]
  simp only [cast_eq]
  refine (congrArg (V m c main_arg0) (?_ : _ = (ix2 T k : S16384x2048.Idx))).trans (congrFun (V_main_arg0 m c) _)
  refine Shape.idx_ext₂ ((win0_1.rect_emb_val t (ix2 n k) 0).trans ?_) ((win0_1.rect_emb_val t (ix2 n k) 1).trans ?_)
  · rw [(index1 t).1]; show (2 * t.val + 1) * 1024 + (n : ℕ) = T; omega
  · rw [(index1 t).2]; show 0 * 2048 + (k : ℕ) = k; omega

/-- The experts' weights, whole at every point. -/
theorem iblk2_apply (t : Fin cfg0.N) (e : Fin 64) (k : Fin 2048) : iblk m c 2 t (ix2 e k) = argW m c (ix2 e k) := by
  unfold iblk
  rw [View.read_apply]
  simp only [cast_eq]
  refine (congrArg (V m c main_arg1) (?_ : _ = (ix2 e k : S64x2048.Idx))).trans (congrFun (V_main_arg1 m c) _)
  exact Shape.idx_ext₂ (win0_2.rect_emb_val_of_index_zero t 0 (index2 t).1 (ix2 e k))
    (win0_2.rect_emb_val_of_index_zero t 1 (index2 t).2 (ix2 e k))

/-- The bias row, whole at every point. -/
theorem iblk3_apply (t : Fin cfg0.N) (e : Fin 64) : iblk m c 3 t (ix2 0 e) = argB m c (ix1 e) := by
  unfold iblk
  rw [View.read_apply]
  simp only [cast_eq]
  refine (congrArg (V m c main_v0) (?_ : _ = (ix2 0 e : S1x64.Idx))).trans (V_bias m c e)
  exact Shape.idx_ext₂ (win0_3.rect_emb_val_of_index_zero t 0 (index3 t).1 (ix2 0 e))
    (win0_3.rect_emb_val_of_index_zero t 1 (index3 t).2 (ix2 0 e))

/-- Token `T`'s logits, from the arguments as launched. -/
abbrev rowOf (T : Fin 16384) : Fin 64 → EReal := logits (argX m c) (argW m c) (argB m c) T

/-- The logits of a point's block are its tokens' logits. -/
theorem blockLogits_iblk (t : Fin cfg0.N) (n : Fin 2048) :
    blockLogits (iblk m c 0 t) (iblk m c 1 t) (iblk m c 2 t) (iblk m c 3 t) n = rowOf m c (token t n) := by
  funext e
  unfold blockLogits rowOf logits
  rw [iblk3_apply]
  congr 1
  by_cases h : (n : ℕ) < 1024
  · rw [dif_pos h]
    exact Finset.sum_congr rfl fun k _ => by rw [iblk0_apply m c t ⟨n, h⟩ k (token t n) rfl, iblk2_apply]
  · rw [dif_neg h]
    refine Finset.sum_congr rfl fun k _ => ?_
    rw [iblk1_apply m c t ⟨n - 1024, by omega⟩ k (token t n)
      (by show t.val * 2048 + (n : ℕ) = t.val * 2048 + 1024 + (n - 1024); omega), iblk2_apply]

/-! ## The arrays the region leaves -/

/-- An array is `G` when every point leaves its block of `G` and every index lies in some point's block. -/
theorem arr_of_blocks (w : Fin cfg0.W) (G : Buf (Elt Ideal) ((cfg0.win w).arr.view.loc (c : Thread nD τ)))
    (hblock : ∀ t y, (dats m 0 c).flushed w t y = ((cfg0.win w).blk t).view.read (Elt Ideal) G y)
    (hcover : ∀ i : ((cfg0.win w).arr.view.loc (c : Thread nD τ)).2.ty.Idx, ∃ t y, (cfg0.win w).flush t = true ∧ ((cfg0.win w).blk t).view.emb y = i) :
    (dats m 0 c).arrAt w cfg0.N = G :=
  (dats m 0 c).arrAt_eq_of_cover w G (fun t _ => funext (hblock t)) fun i => by
    obtain ⟨t, y, hf, rfl⟩ := hcover i
    exact ⟨t, hf, View.emb_mem_set _ y⟩

/-- The logits' array. -/
theorem arr4 : (dats m 0 c).arrAt 4 cfg0.N = fun i : S16384x64.Idx => rowOf m c (i 0) (i 1) := by
  have hemb : ∀ (t : Fin cfg0.N) (n : Fin 2048) (e : Fin 64),
      ((cfg0.win 4).blk t).view.emb (ix2 n e) = (ix2 (token t n) e : S16384x64.Idx) := fun t n e => by
    refine Shape.idx_ext₂ ((win0_4.rect_emb_val t (ix2 n e) 0).trans ?_)
      (win0_4.rect_emb_val_of_index_zero t 1 (index4 t).2 (ix2 n e))
    rw [(index4 t).1]; rfl
  refine arr_of_blocks m c 4 _ (fun t y => ?_) fun i => ?_
  · obtain ⟨n, e, rfl⟩ : ∃ (n : Fin 2048) (e : Fin 64), y = ix2 n e := ⟨y 0, y 1, Shape.idx_ext₂ rfl rfl⟩
    rw [View.read_apply]
    simp only [cast_eq]
    rw [hemb]
    show (dats m 0 c).after 4 t (ix2 n e) = _
    rw [after0_4, out4_apply, blockLogits_iblk]
    rfl
  · obtain ⟨T, e, rfl⟩ : ∃ (T : Fin 16384) (e : Fin 64), i = (ix2 T e : S16384x64.Idx) :=
      ⟨i 0, i 1, Shape.idx_ext₂ rfl rfl⟩
    obtain ⟨t, n, rfl⟩ := exists_token T
    exact ⟨t, ix2 n e, flush0_4 t, hemb t n e⟩

/-- The weights' array, token-last. -/
theorem arr5 : (dats m 0 c).arrAt 5 cfg0.N = fun i : S8x16384.Idx => weight (rowOf m c (i 1)) (i 0) := by
  have hemb : ∀ (t : Fin cfg0.N) (k : Fin 8) (n : Fin 2048),
      ((cfg0.win 5).blk t).view.emb (ix2 k n) = (ix2 k (token t n) : S8x16384.Idx) := fun t k n => by
    refine Shape.idx_ext₂ (win0_5.rect_emb_val_of_index_zero t 0 (index5 t).1 (ix2 k n))
      ((win0_5.rect_emb_val t (ix2 k n) 1).trans ?_)
    rw [(index5 t).2]; rfl
  refine arr_of_blocks m c 5 _ (fun t y => ?_) fun i => ?_
  · obtain ⟨k, n, rfl⟩ : ∃ (k : Fin 8) (n : Fin 2048), y = ix2 k n := ⟨y 0, y 1, Shape.idx_ext₂ rfl rfl⟩
    rw [View.read_apply]
    simp only [cast_eq]
    rw [hemb]
    show (dats m 0 c).after 5 t (ix2 k n) = _
    rw [after0_5, out5_apply, blockLogits_iblk]
    rfl
  · obtain ⟨k, T, rfl⟩ : ∃ (k : Fin 8) (T : Fin 16384), i = (ix2 k T : S8x16384.Idx) :=
      ⟨i 0, i 1, Shape.idx_ext₂ rfl rfl⟩
    obtain ⟨t, n, rfl⟩ := exists_token T
    exact ⟨t, ix2 k n, flush0_5 t, hemb t k n⟩

/-- The positions' array, token-last. -/
theorem arr6 : (dats m 0 c).arrAt 6 cfg0.N = fun i : S8x16384.Idx => pickWord (rowOf m c (i 1)) (i 0) := by
  have hemb : ∀ (t : Fin cfg0.N) (k : Fin 8) (n : Fin 2048),
      ((cfg0.win 6).blk t).view.emb (ix2 k n) = (ix2 k (token t n) : S8x16384.Idx) := fun t k n => by
    refine Shape.idx_ext₂ (win0_6.rect_emb_val_of_index_zero t 0 (index6 t).1 (ix2 k n))
      ((win0_6.rect_emb_val t (ix2 k n) 1).trans ?_)
    rw [(index6 t).2]; rfl
  refine arr_of_blocks m c 6 _ (fun t y => ?_) fun i => ?_
  · obtain ⟨k, n, rfl⟩ : ∃ (k : Fin 8) (n : Fin 2048), y = ix2 k n := ⟨y 0, y 1, Shape.idx_ext₂ rfl rfl⟩
    rw [View.read_apply]
    simp only [cast_eq]
    rw [hemb]
    show (dats m 0 c).after 6 t (ix2 k n) = _
    rw [after0_6, out6_apply, blockLogits_iblk]
    rfl
  · obtain ⟨k, T, rfl⟩ : ∃ (k : Fin 8) (T : Fin 16384), i = (ix2 k T : S8x16384.Idx) :=
      ⟨i 0, i 1, Shape.idx_ext₂ rfl rfl⟩
    obtain ⟨t, n, rfl⟩ := exists_token T
    exact ⟨t, ix2 k n, flush0_6 t, hemb t k n⟩

/-- The mask's array. -/
theorem arr7 : (dats m 0 c).arrAt 7 cfg0.N = fun i : S64x8x16384.Idx => maskWord (rowOf m c (i 2)) (i 0) (i 1) := by
  have hemb : ∀ (t : Fin cfg0.N) (e : Fin 64) (k : Fin 8) (n : Fin 2048),
      ((cfg0.win 7).blk t).view.emb (ix3 e k n) = (ix3 e k (token t n) : S64x8x16384.Idx) := fun t e k n => by
    have h0 := win0_7.rect_emb_val_of_index_zero t 0 (index7 t).1 (ix3 e k n)
    have h1 := win0_7.rect_emb_val_of_index_zero t 1 (index7 t).2.1 (ix3 e k n)
    have h2 := win0_7.rect_emb_val t (ix3 e k n) 2
    rw [(index7 t).2.2] at h2
    funext a
    fin_cases a
    · exact Fin.ext h0
    · exact Fin.ext h1
    · exact Fin.ext h2
  have hix : ∀ {n0 n1 n2 : ℕ} (y : (⟨3, ![n0, n1, n2]⟩ : Shape).Idx), y = ix3 (y 0) (y 1) (y 2) := fun y => by
    funext a; fin_cases a <;> rfl
  refine arr_of_blocks m c 7 _ (fun t y => ?_) fun i => ?_
  · obtain ⟨e, k, n, rfl⟩ : ∃ (e : Fin 64) (k : Fin 8) (n : Fin 2048), y = ix3 e k n := ⟨y 0, y 1, y 2, hix y⟩
    rw [View.read_apply]
    simp only [cast_eq]
    rw [hemb]
    show (dats m 0 c).after 7 t (ix3 e k n) = _
    rw [after0_7, out7_apply, blockLogits_iblk]
    rfl
  · obtain ⟨e, k, T, rfl⟩ : ∃ (e : Fin 64) (k : Fin 8) (T : Fin 16384), i = (ix3 e k T : S64x8x16384.Idx) :=
      ⟨i 0, i 1, i 2, hix i⟩
    obtain ⟨t, n, rfl⟩ := exists_token T
    exact ⟨t, ix3 e k n, flush0_7 t, hemb t e k n⟩

/-! ## The transposes after the region -/

/-- What a window's array holds when the lines after the region begin. -/
theorem withArrays_at (w : Fin 8) :
    Pipeline.withArrays spec0 c (V0 m c) (fun w => (dats m 0 c).arrAt w cfg0.N) (Proc.devRef .tc (Pipeline.arrRef spec0 w))
      = (dats m 0 c).arrAt w cfg0.N :=
  Pipeline.withArrays_arr_shared spec0 c (V0 m c) _
    ((dats m 0 c).arrAt_sharedIn sharedIn0 (V0 m c) (A_eq m c) cfg0.N) w

/-- The weights, token-first. -/
theorem tail_weights : Pipeline.afterTail₀ cfgs (dats m) 0 (V0 m) [hostOps1] c main_v2 =
    fun i : S16384x8.Idx => weight (rowOf m c (i 0)) (i 1) := by
  have h : Pipeline.afterTail₀ cfgs (dats m) 0 (V0 m) [hostOps1] c main_v2 =
      transpose S16384x8 [1, 0] ((dats m 0 c).arrAt 5 cfg0.N) transposes_S8x16384_S16384x8_1_0 := by
    unfold Pipeline.afterTail₀
    show StableHlo.after hostOps1 _ _ = _
    after_results
    exact congrArg (transpose S16384x8 [1, 0] · transposes_S8x16384_S16384x8_1_0) (withArrays_at m c 5)
  rw [h, arr5]
  funext i
  pointwise

/-- The positions, token-first. -/
theorem tail_positions : Pipeline.afterTail₀ cfgs (dats m) 0 (V0 m) [hostOps1] c main_v3 =
    fun i : S16384x8.Idx => pickWord (rowOf m c (i 0)) (i 1) := by
  have h : Pipeline.afterTail₀ cfgs (dats m) 0 (V0 m) [hostOps1] c main_v3 =
      transpose S16384x8 [1, 0] ((dats m 0 c).arrAt 6 cfg0.N) transposes_S8x16384_S16384x8_1_0 := by
    unfold Pipeline.afterTail₀
    show StableHlo.after hostOps1 _ _ = _
    after_results
    exact congrArg (transpose S16384x8 [1, 0] · transposes_S8x16384_S16384x8_1_0) (withArrays_at m c 6)
  rw [h, arr6]
  funext i
  pointwise

/-- THE KERNEL'S RUN: each of its four results, and its arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v1_0) = (fun i : S16384x64.Idx => rowOf m c (i 0) (i 1))
      ∧ r.2.mem ((c : Thread nD τ).loc main_v2) = (fun i : S16384x8.Idx => weight (rowOf m c (i 0)) (i 1))
      ∧ r.2.mem ((c : Thread nD τ).loc main_v3) = (fun i : S16384x8.Idx => pickWord (rowOf m c (i 0)) (i 1))
      ∧ r.2.mem ((c : Thread nD τ).loc main_v1_3) =
          (fun i : S64x8x16384.Idx => maskWord (rowOf m c (i 2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).1 4).trans (arr4 m c),
      ((h.1 c).2 main_v2 (Pipeline.mem_restRefs_of main_v2 (by decide) (by decide))).trans (tail_weights m c),
      ((h.1 c).2 main_v3 (Pipeline.mem_restRefs_of main_v3 (by decide) (by decide))).trans (tail_positions m c),
      ((h.1 c).1 7).trans (arr7 m c), h.2 c⟩)
    (θ_run_and (run_main m ρ) (unchanged m ρ))

end

end Cert.Router

end
-- ==== Proof.Softmax.lean ====
/- The softmax of a finite row: it orders the entries as the row does, and renormalised over the eight picks it is the
   softmax of those eight. -/
module

public import proofs.«01_k».proof.Proof.Logits

@[expose] public section

noncomputable section

namespace Cert.Router

open Idealize.ShloMosaic

/-- Every entry of a row is a real number. -/
def FiniteRow (l : Fin 64 → EReal) : Prop := ∀ e, l e ≠ ⊥ ∧ l e ≠ ⊤

/-- Softmax of a row, shifted by its greatest entry. -/
def prob (l : Fin 64 → EReal) (e : Fin 64) : EReal :=
  Ideal.div (Ideal.exp (l e - top l)) (∑ j : Fin 64, Ideal.exp (l j - top l))

/-- A sum of reals, taken in the extended reals. -/
theorem coe_sum_fin {n : ℕ} (f : Fin n → ℝ) : (∑ j, (f j : EReal)) = ((∑ j, f j : ℝ) : EReal) :=
  (map_sum (⟨⟨Real.toEReal, EReal.coe_zero⟩, EReal.coe_add⟩ : ℝ →+ EReal) f Finset.univ).symm

/-- The exponential of a difference of reals. -/
theorem exp_coe_sub (a b : ℝ) : Ideal.exp ((a : EReal) - (b : EReal)) = ((Real.exp (a - b) : ℝ) : EReal) := by
  rw [← EReal.coe_sub]; rfl

/-- A normalised exponential, over any family of reals, is the real quotient. -/
theorem div_sum_coe {n : ℕ} (f : Fin n → ℝ) (a : ℝ) (hf : (∑ j, f j) ≠ 0) :
    Ideal.div (a : EReal) (∑ j, (f j : EReal)) = ((a / ∑ j, f j : ℝ) : EReal) := by
  rw [coe_sum_fin, Ideal.div_coe hf, ← EReal.coe_mul, mul_one_div]

/-- A sum of exponentials is positive. -/
theorem sum_exp_pos {n : ℕ} [NeZero n] (f : Fin n → ℝ) : 0 < ∑ j, Real.exp (f j) :=
  Finset.sum_pos (fun _ _ => Real.exp_pos _) ⟨0, Finset.mem_univ _⟩

section
variable (r : Fin 64 → ℝ)

/-- The greatest entry of a row of reals is the one at its first greatest position. -/
theorem top_coe : top (fun e => (r e : EReal)) = ((r (first fun e => (r e : EReal)) : ℝ) : EReal) :=
  (apply_first (fun e => (r e : EReal))).symm

/-- Softmax of a row of reals is a real. -/
theorem prob_coe (e : Fin 64) : prob (fun e => (r e : EReal)) e =
    ((Real.exp (r e - r (first fun e => (r e : EReal))) /
      ∑ j, Real.exp (r j - r (first fun e => (r e : EReal))) : ℝ) : EReal) := by
  unfold prob
  rw [top_coe]
  simp only [exp_coe_sub]
  exact div_sum_coe _ _ (sum_exp_pos _).ne'

end

/-- A finite row is a row of reals. -/
theorem FiniteRow.exists_coe {l : Fin 64 → EReal} (hl : FiniteRow l) : ∃ r : Fin 64 → ℝ, l = fun e => (r e : EReal) :=
  ⟨fun e => (l e).toReal, funext fun e => (EReal.coe_toReal (hl e).2 (hl e).1).symm⟩

/-- Softmax orders a finite row as its entries are ordered. -/
theorem prob_lt_iff {l : Fin 64 → EReal} (hl : FiniteRow l) (a b : Fin 64) : prob l a < prob l b ↔ l a < l b := by
  obtain ⟨r, rfl⟩ := hl.exists_coe
  rw [prob_coe, prob_coe, EReal.coe_lt_coe_iff, EReal.coe_lt_coe_iff, div_lt_div_iff_of_pos_right (sum_exp_pos _),
    Real.exp_lt_exp, sub_lt_sub_iff_right]

/-- Common factors of a numerator and its normalizer cancel. -/
theorem renormalize {a p s t q : ℝ} (hp : p ≠ 0) (hq : q ≠ 0) (hs : s ≠ 0) (ht : t ≠ 0) :
    a / p / (s / p) = a / q / (t / q) / (s / q / (t / q)) := by
  field_simp

/-- The weights of the picks: the row's softmax at the picks, renormalised, is the softmax of the picks alone. -/
theorem weight_eq {l : Fin 64 → EReal} (hl : FiniteRow l) (k : Fin 8) :
    weight l k = Ideal.div (prob l (pick l k)) (∑ j : Fin 8, prob l (pick l j)) := by
  have hne : ∀ e, l e ≠ ⊥ := fun e => (hl e).1
  have htop : ∀ j : Fin 8, top (row l j) = l (pick l j) := fun j => top_row hne j (by omega)
  unfold weight
  rw [show top (row l 0) = l (pick l 0) from htop 0]
  simp only [htop]
  obtain ⟨r, rfl⟩ := hl.exists_coe
  generalize pick (fun e => (r e : EReal)) 0 = p0
  generalize hp : (fun j : Fin 8 => pick (fun e => (r e : EReal)) j) = p
  have hp' : ∀ j : Fin 8, pick (fun e => (r e : EReal)) j = p j := fun j => congrFun hp j
  simp only [hp', prob_coe, exp_coe_sub]
  generalize r (first fun e => (r e : EReal)) = M
  have hS : (0 : ℝ) < ∑ j : Fin 64, Real.exp (r j - M) := sum_exp_pos _
  have hpos : (0 : ℝ) < ∑ j : Fin 8, Real.exp (r (p j) - M) / ∑ j : Fin 64, Real.exp (r j - M) :=
    Finset.sum_pos (fun _ _ => div_pos (Real.exp_pos _) hS) ⟨0, Finset.mem_univ _⟩
  rw [div_sum_coe _ _ (sum_exp_pos _).ne', div_sum_coe _ _ hpos.ne']
  congr 1
  simp only [Real.exp_sub, ← Finset.sum_div]
  have h8 : (0 : ℝ) < ∑ j : Fin 8, Real.exp (r (p j)) := sum_exp_pos _
  have h64 : (0 : ℝ) < ∑ j : Fin 64, Real.exp (r j) := sum_exp_pos _
  exact renormalize (Real.exp_pos _).ne' (Real.exp_pos _).ne' h8.ne' h64.ne'

end Cert.Router

end
-- ==== Proof.TopK.lean ====
/- A top-k over the columns of a table, read at an index: it takes each row's elements from where the row's stable
   descending sort puts them. -/
module

public import proofs.«01_k».proof.Proof.Logits
public import Idealize.ShloMosaic.Lib.Pipeline.Value

@[expose] public section

noncomputable section

namespace Cert.Router

open Idealize.ShloMosaic

/-- A total descending comparison of extended reals says whether the first is greater. -/
theorem cmpfTotal_gt (a c : EReal) : (FloatOps.cmpfTotal (F := Ideal) (φ := .f32) .gt a c == 1#1) = decide (c < a) := by
  show (BitVec.ofBool (decide (c < a)) == 1#1) = decide (c < a)
  cases decide (c < a) <;> rfl

section
variable {n p q : ℕ} (hq : q ≤ p) (f : (⟨2, ![n, p]⟩ : Shape).Idx → EReal) (T : Fin n) (k : Fin q)

/-- The column the `k`-th element of row `T` comes from when the row is sorted stably, greatest first. -/
def source : Fin p :=
  sortedFrom (fun a c => decide (f (ix2 T c) < f (ix2 T a))) (k.castLE hq)

/-- Moving along the columns of a row. -/
theorem along_cols (j e : Fin p) : (ix2 T j : (⟨2, ![n, p]⟩ : Shape).Idx).along 1 e = ix2 T e := by
  funext a
  fin_cases a
  · exact Function.update_of_ne (Fin.ne_of_val_ne Nat.zero_ne_one) _ _
  · exact Function.update_self _ _ _

/-- Where the sort of the whole table takes the element at row `T`, column `k` from. -/
theorem sorted_along : (ix2 T (k.castLE hq) : (⟨2, ![n, p]⟩ : Shape).Idx).along 1
      (sortedFrom (fun a c => FloatOps.cmpfTotal (F := Ideal) (φ := .f32) .gt
        (f ((ix2 T (k.castLE hq) : (⟨2, ![n, p]⟩ : Shape).Idx).along 1 a))
        (f ((ix2 T (k.castLE hq) : (⟨2, ![n, p]⟩ : Shape).Idx).along 1 c)) == 1#1)
        ((ix2 T (k.castLE hq) : (⟨2, ![n, p]⟩ : Shape).Idx) 1)) = ix2 T (source hq f T k) := by
  refine (along_cols T _ _).trans (congrArg (ix2 T) ?_)
  refine congrArg (fun g => sortedFrom (n := p) g (k.castLE hq)) (funext fun a => funext fun c => ?_)
  refine (cmpfTotal_gt _ _).trans ?_
  rw [show (ix2 T (k.castLE hq) : (⟨2, ![n, p]⟩ : Shape).Idx).along 1 a = ix2 T a from along_cols T _ a,
    show (ix2 T (k.castLE hq) : (⟨2, ![n, p]⟩ : Shape).Idx).along 1 c = ix2 T c from along_cols T _ c]
  rfl

/-- Keeping the first columns of a table. -/
theorem slice_cols {α : Type} (v : (⟨2, ![n, p]⟩ : Shape).Idx → α)
    (hs : (⟨2, ![n, p]⟩ : Shape).Slices (fun _ => 0) ⟨2, ![n, q]⟩) :
    extractStridedSlice ⟨2, ![n, q]⟩ (fun _ => 0) v hs (ix2 T k) = v (ix2 T (k.castLE hq)) :=
  extractStridedSlice_apply _ v _ _ _ fun a => by fin_cases a <;> exact (Nat.zero_add _).symm

/-- The values and positions the top-k of a table keeps, each from its row's stable sort. -/
theorem topK_apply (hs : (⟨2, ![n, p]⟩ : Shape).Slices (fun _ => 0) ⟨2, ![n, q]⟩) :
    (Host.topK ⟨2, ![n, q]⟩ 1 (FloatOps.cmpfTotal (F := Ideal) (φ := .f32) .gt) f hs).1 (ix2 T k)
        = f (ix2 T (source hq f T k))
    ∧ (Host.topK ⟨2, ![n, q]⟩ 1 (FloatOps.cmpfTotal (F := Ideal) (φ := .f32) .gt) f hs).2 (ix2 T k)
        = BitVec.ofNat 32 (source hq f T k : ℕ) := by
  constructor
  · exact (slice_cols hq T k (Host.sort2 ⟨2, ![n, p]⟩ 1
      (fun l r => FloatOps.cmpfTotal (F := Ideal) (φ := .f32) .gt l.1 r.1) f (iotaInDim ⟨2, ![n, p]⟩ 32 1)).1 hs).trans (congrArg f (sorted_along hq f T k))
  · exact (slice_cols hq T k (Host.sort2 ⟨2, ![n, p]⟩ 1
      (fun l r => FloatOps.cmpfTotal (F := Ideal) (φ := .f32) .gt l.1 r.1) f (iotaInDim ⟨2, ![n, p]⟩ 32 1)).2 hs).trans
      (congrArg (fun i : (⟨2, ![n, p]⟩ : Shape).Idx => BitVec.ofNat 32 (i 1 : ℕ)) (sorted_along hq f T k))

end

end Cert.Router

end
-- ==== Proof.Reference.lean ====
/- What the reference computes, token by token: its logits, its softmax, the positions and values its top-k takes, the
   renormalised weights and the mask. -/
module

public import proofs.«01_k».proof.Proof.Rounds
public import proofs.«01_k».proof.Proof.Softmax
public import proofs.«01_k».proof.Proof.TopK
public import proofs.«01_k».proof.Proof.Gen.ReferenceIdeal.Read

@[expose] public section

noncomputable section

namespace Cert.Router.Ref

open Idealize.ShloMosaic Cert.ReferenceIdeal Cert.ReferenceIdeal.Gen Cert.ReferenceIdeal.Read

attribute [local instance] Cert.ReferenceIdeal.Gen.facts

variable (x : S16384x2048.Idx → EReal) (w : S64x2048.Idx → EReal) (b : S64.Idx → EReal)

/-- The reference's logits. -/
theorem logits_apply (T : Fin 16384) (e : Fin 64) :
    val_main_v4 (F := Ideal) x w b (ix2 T e) = logits x w b T e := by
  unfold val_main_v4 val_main_v1 val_main_v0 val_main_v3 val_main_v2
  pointwise
  rfl

/-- A row maximum taken from `-∞` is the row's greatest entry. -/
theorem reduce_max_apply (y : S16384x64.Idx → EReal) (z : S_.Idx → EReal) (hz : ∀ i, z i = ⊥) (T : Fin 16384) :
    Host.reduce (α := EReal) (FloatOps.maximumf (F := Ideal) (φ := .f32)) y z reducesTo_S16384x64_S16384_d1 h_S_ (ix1 T) =
      top fun e => y (ix2 T e) := by
  pointwise
  rw [hz]
  rfl

/-- The row maximum its softmax subtracts. -/
theorem max_apply (T : Fin 16384) : val_main_v7 (F := Ideal) x w b (ix1 T) = top (logits x w b T) := by
  have h5 : val_main_v5 (F := Ideal) x w b (ix1 T) = top (logits x w b T) := by
    unfold val_main_v5
    refine (reduce_max_apply _ _ (fun _ => ofBits_neg_inf) T).trans (congrArg top (funext fun e => ?_))
    exact logits_apply x w b T e
  have h6 : val_main_v6 (F := Ideal) (ix1 T) = (⊥ : EReal) := (val_main_v6_apply _).trans ofBits_neg_inf
  rw [val_main_v7_apply, h5, h6]
  exact max_eq_right bot_le

/-- Its shifted exponentials. -/
theorem exp_apply (T : Fin 16384) (e : Fin 64) :
    val_main_v11 (F := Ideal) x w b (ix2 T e) = Ideal.exp (logits x w b T e - top (logits x w b T)) := by
  unfold val_main_v11 val_main_v10 val_main_v9 val_main_v8
  pointwise
  rw [logits_apply, max_apply]

/-- Its softmax. -/
theorem prob_apply (T : Fin 16384) (e : Fin 64) :
    val_main_v15 (F := Ideal) x w b (ix2 T e) = prob (logits x w b T) e := by
  unfold val_main_v15 val_main_v14 val_main_v13 val_main_v12 val_main_cst_1
  pointwise
  simp only [exp_apply]
  rfl

/-! ## The top-k -/

/-- Comparing two words for equality does not depend on their order. -/
theorem cmpi_eq_comm (a c : BitVec 32) : IntOp.cmpi .eq a c = IntOp.cmpi .eq c a := by
  show BitVec.ofBool (a == c) = BitVec.ofBool (c == a)
  rw [Bool.beq_comm]

section
variable (T : Fin 16384) (hl : FiniteRow (logits x w b T)) (k : Fin 8)
include hl

/-- On a finite row the sort takes its `k`-th element from pick `k`. -/
theorem source_eq_pick : source (by decide) (val_main_v15 (F := Ideal) x w b) T k = pick (logits x w b T) k := by
  unfold source
  simp only [prob_apply]
  exact sortedFrom_pick (fun e => (hl e).1) (prob (logits x w b T)) (prob_lt_iff hl) k

/-- The reference's positions. -/
theorem positions_apply : val_main_indices (F := Ideal) x w b (ix2 T k) = pickWord (logits x w b T) k := by
  unfold val_main_indices
  exact (topK_apply (by decide) _ T k _).2.trans
    (congrArg (fun e : Fin 64 => BitVec.ofNat 32 (e : ℕ)) (source_eq_pick x w b T hl k))

/-- The softmax values its top-k keeps. -/
theorem values_apply :
    val_main_values (F := Ideal) x w b (ix2 T k) = prob (logits x w b T) (pick (logits x w b T) k) := by
  unfold val_main_values
  refine (topK_apply (by decide) _ T k _).1.trans ?_
  rw [source_eq_pick x w b T hl k, prob_apply]

/-- The reference's renormalised weights. -/
theorem weights_apply : val_main_v19 (F := Ideal) x w b (ix2 T k) = weight (logits x w b T) k := by
  unfold val_main_v19 val_main_v18 val_main_v17 val_main_v16 val_main_cst_2
  pointwise
  rw [weight_eq hl]
  simp only [values_apply x w b T hl]

/-- The reference's mask. -/
theorem mask_apply (e : Fin 64) : val_main_v21 (F := Ideal) x w b (ix3 e k T) = maskWord (logits x w b T) e k := by
  unfold val_main_v21 val_main_v20 val_main_call0_v4 val_main_call0_v3 val_main_call0_v2 val_main_call0_v1 val_main_call0_v0
  pointwise
  rw [positions_apply x w b T hl]
  rw [cmpi_eq_comm]
  rfl

end

end Cert.Router.Ref

end
-- ==== Proof.Finite.lean ====
/- The precondition makes every argument entry a real number, and logits of real numbers are real numbers. -/
module

public import proofs.«01_k».proof.Pre_finite
public import proofs.«01_k».proof.Proof.Gen.Pre_finite
public import proofs.«01_k».proof.Proof.Softmax
public import Idealize.ShloMosaic.Lib.ReduceAll

@[expose] public section

noncomputable section

namespace Cert.Router

open Idealize.ShloMosaic

attribute [local instance] Cert.Pre_finite.Gen.facts

/-- An extended real whose absolute value is below `⊤` is a real number. -/
theorem finite_of_abs_lt {v : EReal} (h : max v (-v) < ⊤) : v ≠ ⊥ ∧ v ≠ ⊤ := by
  constructor <;> rintro rfl <;> simp at h

/-- The single-precision word of plus infinity. -/
theorem ofBits_inf : Ideal.ofBits .f32 0x7F800000#32 = ⊤ := by
  simp [Ideal.ofBits, Ideal.ieee]

/-- An array all of whose entries pass the test `|v| < ∞` holds real numbers only. -/
theorem finite_of_all {s t u : Shape} [Subsingleton t.Idx] {axes : List (Fin s.rank)} (v bound : FVec Ideal s .f32)
    (hbound : ∀ i, bound i = (⊤ : EReal)) (init : IVec u 1) (h : s.ReducesTo axes t) (hu : 0 < u.numel) (j : t.Idx)
    (e : Host.reduce IntOp.andi (cmpf .olt (Host.absf v) bound) init h hu j = 1#1) (i : s.Idx) :
    (v i : EReal) ≠ ⊥ ∧ (v i : EReal) ≠ ⊤ := by
  have hi : BitVec.ofBool (decide (max (v i : EReal) (-(v i)) < bound i)) = 1#1 := Host.reduce_andi_all _ _ h hu j e i
  rw [hbound] at hi
  refine finite_of_abs_lt (of_decide_eq_true ?_)
  revert hi
  cases decide (max (v i : EReal) (-(v i)) < ⊤) <;> decide

/-- An array of extended reals without infinities. -/
def FiniteArray {s : Shape} (v : s.Idx → EReal) : Prop := ∀ i, v i ≠ ⊥ ∧ v i ≠ ⊤

/-- The precondition says that the three arguments have no infinite entry. -/
theorem finite_of_pre (x : (⟨2, ![16384, 2048]⟩ : Shape).Idx → EReal) (w : (⟨2, ![64, 2048]⟩ : Shape).Idx → EReal)
    (b : (⟨1, ![64]⟩ : Shape).Idx → EReal) (h : Cert.Pre_finite.fn (F := Ideal) x w b = fun _ => 1#1) :
    FiniteArray x ∧ FiniteArray w ∧ FiniteArray b := by
  haveI : Subsingleton Cert.Pre_finite.S_.Idx := ⟨fun a c => funext fun d => d.elim0⟩
  have h0 := congrFun h (fun d => d.elim0)
  unfold Cert.Pre_finite.fn at h0
  obtain ⟨h01, hb⟩ := IntOp.andi_eq_one.mp h0
  obtain ⟨hx, hw⟩ := IntOp.andi_eq_one.mp h01
  exact ⟨finite_of_all x _ (fun _ => ofBits_inf) _ _ _ _ hx, finite_of_all w _ (fun _ => ofBits_inf) _ _ _ _ hw,
    finite_of_all b _ (fun _ => ofBits_inf) _ _ _ _ hb⟩

/-- Logits of arrays without infinities are real numbers. -/
theorem finite_logits {x : (⟨2, ![16384, 2048]⟩ : Shape).Idx → EReal} {w : (⟨2, ![64, 2048]⟩ : Shape).Idx → EReal}
    {b : (⟨1, ![64]⟩ : Shape).Idx → EReal} (hx : FiniteArray x) (hw : FiniteArray w) (hb : FiniteArray b)
    (T : Fin 16384) : FiniteRow (logits x w b T) := by
  have hcoe : ∀ {s : Shape} {v : s.Idx → EReal}, FiniteArray v → v = fun i => ((v i).toReal : EReal) := fun hv =>
    funext fun i => (EReal.coe_toReal (hv i).2 (hv i).1).symm
  intro e
  unfold logits
  rw [hcoe hx, hcoe hw, hcoe hb]
  simp only [← EReal.coe_mul]
  rw [coe_sum_fin, ← EReal.coe_add]
  exact ⟨EReal.coe_ne_bot _, EReal.coe_ne_top _⟩

end Cert.Router

end
-- ==== Proof.Equation.lean ====
/- The value claim: on arguments without infinities the kernel's four results are the reference's. -/
module

public import proofs.«01_k».proof.Defs
public import proofs.«01_k».proof.Proof.Arrays
public import proofs.«01_k».proof.Proof.Reference
public import proofs.«01_k».proof.Proof.Finite

@[expose] public section

noncomputable section

namespace Cert.Router

open Idealize.ShloMosaic Idealize.SL.Sem

attribute [local instance] Cert.KernelIdeal.Gen.facts Cert.ReferenceIdeal.Gen.facts Cert.Pre_finite.Gen.facts

section
variable (x : (⟨2, ![16384, 2048]⟩ : Shape).Idx → EReal) (w : (⟨2, ![64, 2048]⟩ : Shape).Idx → EReal)
  (b : (⟨1, ![64]⟩ : Shape).Idx → EReal)

/-! ## The four results, as functions of the arguments -/

/-- The logits of every token. -/
def logitsArray : (⟨2, ![16384, 64]⟩ : Shape).Idx → EReal := fun i => logits x w b (i 0) (i 1)
/-- The weights of every token's eight picks. -/
def weightsArray : (⟨2, ![16384, 8]⟩ : Shape).Idx → EReal := fun i => weight (logits x w b (i 0)) (i 1)
/-- The positions of every token's eight picks. -/
def positionsArray : (⟨2, ![16384, 8]⟩ : Shape).Idx → BitVec 32 := fun i => pickWord (logits x w b (i 0)) (i 1)
/-- Which expert each pick of each token is. -/
def maskArray : (⟨3, ![64, 8, 16384]⟩ : Shape).Idx → BitVec 32 := fun i => maskWord (logits x w b (i 2)) (i 0) (i 1)

/-- The reference's four result values are these arrays, when the logits are real numbers. -/
theorem reference_values (hl : ∀ T, FiniteRow (logits x w b T)) :
    Cert.ReferenceIdeal.Read.val_main_v4 (F := Ideal) x w b = logitsArray x w b
    ∧ Cert.ReferenceIdeal.Read.val_main_v19 (F := Ideal) x w b = weightsArray x w b
    ∧ Cert.ReferenceIdeal.Read.val_main_indices (F := Ideal) x w b = positionsArray x w b
    ∧ Cert.ReferenceIdeal.Read.val_main_v21 (F := Ideal) x w b = maskArray x w b := by
  have h2 : ∀ {p q : ℕ} (i : (⟨2, ![p, q]⟩ : Shape).Idx), i = ix2 (i 0) (i 1) := fun i => Shape.idx_ext₂ rfl rfl
  have h3 : ∀ {p q r : ℕ} (i : (⟨3, ![p, q, r]⟩ : Shape).Idx), i = ix3 (i 0) (i 1) (i 2) := fun i => by
    funext a; fin_cases a <;> rfl
  refine ⟨funext fun i => ?_, funext fun i => ?_, funext fun i => ?_, funext fun i => ?_⟩
  · exact (congrArg _ (h2 i)).trans (Ref.logits_apply x w b (i 0) (i 1))
  · exact (congrArg _ (h2 i)).trans (Ref.weights_apply x w b (i 0) (hl _) (i 1))
  · exact (congrArg _ (h2 i)).trans (Ref.positions_apply x w b (i 0) (hl _) (i 1))
  · exact (congrArg _ (h3 i)).trans (Ref.mask_apply x w b (i 2) (hl _) (i 1) (i 0))

end

/-- THE VALUE CLAIM. -/
theorem algebraic : Cert.algebraic_KernelIdeal_ReferenceIdeal_pre_finite := by
  intro m g m' g' hpre hargs
  refine ⟨fun c => logitsArray (argX m c) (argW m c) (argB m c), fun c => weightsArray (argX m c) (argW m c) (argB m c),
    fun c => positionsArray (argX m c) (argW m c) (argB m c), fun c => maskArray (argX m c) (argW m c) (argB m c),
    kernel_run m g, ?_⟩
  refine (θ_run Cert.ReferenceIdeal.defs _ _).mono (fun r h c => ?_) (Cert.ReferenceIdeal.Value.run m' g')
  obtain ⟨hx, hw, hb⟩ := finite_of_pre _ _ _ (hpre c)
  obtain ⟨r4, r19, rind, r21⟩ := reference_values _ _ _ (finite_logits hx hw hb)
  obtain ⟨e0, e1, e2⟩ := hargs c
  obtain ⟨h4, h19, hind, h21, hrest⟩ := h c
  refine ⟨?_, ?_, ?_, ?_, hrest⟩
  · refine (h4.trans (Cert.ReferenceIdeal.Read.val_main_v4_eq _ _ _)).trans ?_
    rw [e0, e1, e2]; exact r4
  · refine (h19.trans (Cert.ReferenceIdeal.Read.val_main_v19_eq m' c)).trans ?_
    rw [e0, e1, e2]; exact r19
  · refine (hind.trans (Cert.ReferenceIdeal.Read.val_main_indices_eq _ _ _)).trans ?_
    rw [e0, e1, e2]; exact rind
  · refine (h21.trans (Cert.ReferenceIdeal.Read.val_main_v21_eq _ _ _)).trans ?_
    rw [e0, e1, e2]; exact r21

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts
  Cert.Pre_finite.Gen.facts

/-- The reference runs, leaves its arguments as they were, and ends with every counter at zero (it declares none). -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Router.algebraic⟩

end Cert.Proof

end
